-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v5)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v5) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S33554432 : Shape := ⟨1, ![33554432]⟩
abbrev S32768x1024 : Shape := ⟨2, ![32768, 1024]⟩
abbrev S2048x1024 : Shape := ⟨2, ![2048, 1024]⟩
abbrev S_ : Shape := ⟨0, ![]⟩

abbrev nBuf : Space → Nat
  | .hbm => 8
  | .vmem => 4
  | .smem => 0
  | _ => 0

abbrev bufTy : (tb : Table) → Fin (tcTables nBuf tb) → BufTy
  | .hbm, ⟨0, _⟩ => ⟨S33554432, .f32⟩
  | .hbm, ⟨1, _⟩ => ⟨S32768x1024, .f32⟩
  | .hbm, ⟨2, _⟩ => ⟨S32768x1024, .i32⟩
  | .hbm, ⟨3, _⟩ => ⟨S_, .i32⟩
  | .hbm, ⟨4, _⟩ => ⟨S32768x1024, .i32⟩
  | .hbm, ⟨5, _⟩ => ⟨S32768x1024, .i1⟩
  | .hbm, ⟨6, _⟩ => ⟨S32768x1024, .i1⟩
  | .hbm, ⟨7, _⟩ => ⟨S33554432, .i1⟩
  | .local _ .vmem, ⟨0, _⟩ => ⟨S2048x1024, .f32⟩
  | .local _ .vmem, ⟨1, _⟩ => ⟨S2048x1024, .f32⟩
  | .local _ .vmem, ⟨2, _⟩ => ⟨S2048x1024, .i32⟩
  | .local _ .vmem, ⟨3, _⟩ => ⟨S2048x1024, .i32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S33554432 : Shape := ⟨1, ![33554432]⟩
abbrev S5 : Shape := ⟨1, ![5]⟩
abbrev S33554432x1 : Shape := ⟨2, ![33554432, 1]⟩
abbrev S1x5 : Shape := ⟨2, ![1, 5]⟩
abbrev S33554432x5 : Shape := ⟨2, ![33554432, 5]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S5, .f32⟩
  | .hbm, ⟨2, _⟩ => ⟨S33554432x1, .f32⟩
  | .hbm, ⟨3, _⟩ => ⟨S1x5, .f32⟩
  | .hbm, ⟨4, _⟩ => ⟨S33554432x5, .f32⟩
  | .hbm, ⟨5, _⟩ => ⟨S33554432x5, .f32⟩
  | .hbm, ⟨6, _⟩ => ⟨S33554432x5, .i1⟩
  | .hbm, ⟨7, _⟩ => ⟨S_, .i1⟩
  | .hbm, ⟨8, _⟩ => ⟨S33554432, .i1⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_c : Ref sig .tc := ⟨.hbm, 7, rfl⟩
abbrev main_v0 : Ref sig .tc := ⟨.hbm, 8, rfl⟩

abbrev nD : Nat := 1
abbrev τ : Topo := Topo.v7x

variable {F : FTy → Type} [FloatOps F]
-- ==== Proof.Membership.lean ====
/-
  Membership of one float in the set {0, 2, 4, 6, 8}, and how the two programs spell it.

  `member x` is the one-bit answer: the disjunction of five equality comparisons. The reference asks the question by a
  table of five floats, one comparison for each of them along a new axis, and an `or` over that axis (`reference_apply`).
  The kernel asks it by five comparisons with constants, widens the bit to a 32-bit word, and the host narrows the word
  again by comparing it with zero (`narrow_widen`). All of this holds for any reading of the float operations.
-/
module

public import proofs.«01_k».proof.Proof.Gen.ReferenceIdeal.Run
public import Idealize.ShloMosaic.PureOps.Reduce
public import Idealize.ShloMosaic.Lib.Pipeline.Value
public import Idealize.ShloMosaic.Lib.Pointwise.Index

@[expose] public section

noncomputable section

namespace Cert.Membership

open Idealize.ShloMosaic

variable {F : FTy → Type} [FloatOps F]

/-- One comparison: whether `x` equals the float of the word `w`. -/
def hit (w : BitVec 32) (x : F .f32) : BitVec 1 := FloatOps.cmpf .oeq x (FloatOps.ofBits .f32 w)

/-- Whether `x` is one of 0, 2, 4, 6 and 8, as one bit. -/
def member (x : F .f32) : BitVec 1 :=
  hit 0x00000000#32 x ||| hit 0x40000000#32 x ||| hit 0x40800000#32 x ||| hit 0x40C00000#32 x ||| hit 0x41000000#32 x

/-- A bit widened to a word and compared with zero is the bit again. -/
theorem narrow_widen (b : BitVec 1) : IntOp.cmpi .ne (b.setWidth 32) 0#32 = b := by
  revert b; decide

section Reference

open Cert.ReferenceIdeal

/-- The reference's reduction, by axis: the facts of the operand's shape without its second axis. -/
theorem reduces_table : S33554432x5.Reduces [1] S33554432 := by decide

/-- The table of compared values, repeated along the first axis: at row `r` and column `k` it holds entry `k`. -/
theorem table_apply [Facts] (j : S33554432x5.Idx) :
    broadcastInDim S33554432x5 ![0, 1] Facts₀.bcast_S1x5_S33554432x5_0_1
      (broadcastInDim S1x5 ![1] Facts₀.bcast_S5_S1x5_1
        (fun i => FloatOps.ofBits (F := F) .f32 (lit0 (S5.rowMajor i)))) j
      = FloatOps.ofBits .f32 (lit0 (j 1)) := by
  refine (broadcastInDim_apply _ _ _ j (ix2 (0 : Fin 1) (j 1)) ?_).trans ?_
  · intro a; fin_cases a <;> rfl
  refine (broadcastInDim_apply _ _ _ _ (ix1 (j 1)) ?_).trans ?_
  · intro a; fin_cases a; rfl
  exact congrArg (fun k => FloatOps.ofBits .f32 (lit0 k)) (Fin.ext (Shape.rowMajor_val_one (d := ![5]) _))

/-- The argument, repeated along the second axis: at row `r` it holds element `r`, whatever the column. -/
theorem column_apply [Facts] (x : FVec F S33554432 .f32) (j : S33554432x5.Idx) :
    broadcastInDim S33554432x5 ![0, 1] Facts₀.bcast_S33554432x1_S33554432x5_0_1
      (broadcastInDim S33554432x1 ![0] Facts₀.bcast_S33554432_S33554432x1_0 x) j
      = x (ix1 (j 0)) := by
  refine (broadcastInDim_apply _ _ _ j (ix2 (j 0) (0 : Fin 1)) ?_).trans ?_
  · intro a; fin_cases a <;> rfl
  refine (broadcastInDim_apply _ _ _ _ (ix1 (j 0)) ?_).trans rfl
  intro a; fin_cases a; rfl

/-- WHAT THE REFERENCE COMPUTES: at every index, whether the argument's element there is in the set. -/
theorem reference_apply [Facts] (x : FVec F S33554432 .f32) (j : S33554432.Idx) :
    Host.reduce IntOp.ori
      (cmpf .oeq
        (broadcastInDim S33554432x5 ![0, 1] Facts₀.bcast_S33554432x1_S33554432x5_0_1
          (broadcastInDim S33554432x1 ![0] Facts₀.bcast_S33554432_S33554432x1_0 x))
        (broadcastInDim S33554432x5 ![0, 1] Facts₀.bcast_S1x5_S33554432x5_0_1
          (broadcastInDim S1x5 ![1] Facts₀.bcast_S5_S1x5_1
            (fun i => FloatOps.ofBits .f32 (lit0 (S5.rowMajor i))))))
      (constantI S_ 1 0#1) Facts₀.reducesTo_S33554432x5_S33554432_d1 Facts₀.h_S_ j
      = member (x j) := by
  rw [Host.reduce_eq_fold_single IntOp.ori _ _ _ reduces_table]
  have e : (cmpf .oeq
        (broadcastInDim S33554432x5 ![0, 1] Facts₀.bcast_S33554432x1_S33554432x5_0_1
          (broadcastInDim S33554432x1 ![0] Facts₀.bcast_S33554432_S33554432x1_0 x))
        (broadcastInDim S33554432x5 ![0, 1] Facts₀.bcast_S1x5_S33554432x5_0_1
          (broadcastInDim S1x5 ![1] Facts₀.bcast_S5_S1x5_1
            (fun i => FloatOps.ofBits .f32 (lit0 (S5.rowMajor i)))))) ∘ reduces_table.lift j
      = fun k : Fin 5 => hit (lit0 k) (x j) := by
    funext k
    show FloatOps.cmpf .oeq _ _ = _
    rw [column_apply, table_apply]
    have h0 : (reduces_table.lift j k 0 : Nat) = j 0 := rfl
    unfold hit
    congr 1
    refine congrArg x (funext fun a => ?_)
    fin_cases a
    exact Fin.ext h0
  rw [e]
  show (Finset.univ : Finset (Fin 5)).fold IntOp.ori 0#1 (fun k => hit (lit0 k) (x j)) = _
  have u : (Finset.univ : Finset (Fin 5)) = {0, 1, 2, 3, 4} := by decide
  rw [u]
  simp only [Finset.fold_insert, Finset.fold_singleton, Finset.mem_insert, Finset.mem_singleton, Fin.reduceEq, or_self,
    not_false_eq_true, IntOp.ori, member, BitVec.or_zero, BitVec.or_assoc]
  rfl

end Reference

end Cert.Membership

end
-- ==== Proof.KernelValue.lean ====
/-
  What the idealized kernel's program leaves in its result, at any reading of the float operations.

  The kernel cuts the argument, seen as 32768 rows of 1024, into sixteen blocks of 2048 rows. The block that a grid point
  writes back holds, word by word, the membership bit of the same element of the input block (`payload_apply`), so it is a
  block of one whole array (`bits`, `flushed_eq`); the sixteen blocks cover that array (`cover`, `final`). The host then
  narrows the words to bits and lays them out flat (`tail`), and the two changes of layout cancel (`run`).
-/
module

public import proofs.«01_k».proof.Proof.Membership
public import proofs.«01_k».proof.Proof.Gen.KernelIdeal.Frame
public import Idealize.ShloMosaic.Lib.StableHlo.Run

@[expose] public section

noncomputable section

namespace Cert.KernelValue

open Cert.KernelIdeal Cert.KernelIdeal.Gen Cert.Membership
open Idealize.ShloMosaic Idealize.ShloMosaic.TcCoe Idealize.SL.Sem

variable {F : FTy → Type} [FloatOps F]

/-- What the body stores, at an index: the membership bit of the loaded element, widened to a word. -/
theorem payload_apply (x : FVec F S2048x1024 .f32) (i : S2048x1024.Idx) :
    k0_pay1 x i = (member (x i)).setWidth 32 := by
  unfold k0_pay1
  rw [shapeCast_self]
  rfl

variable (m : (ℓ : Loc nD τ sig) → Buf (Elt F) ℓ) (ρ : Dev nD → PrngReg)

/-- The array of words that the sixteen blocks make up: the widened membership bits of the argument in rows. -/
def bits (c : Dev nD) : Buf (Elt F) ((c : Thread nD τ).loc main_v1) :=
  fun i : S32768x1024.Idx => (member (F := F) (V m c main_v0 i)).setWidth 32

theorem offsets_zero : (![0, 0] : Fin 2 → Nat) = fun _ => 0 := funext fun a => by fin_cases a <;> rfl

/-- What a grid point writes back is its block of `bits`. -/
theorem flushed_eq (c : Dev nD) (t : Fin cfg0.N) :
    (dats m 0 c).flushed 1 t = ((cfg0.win 1).blk t).view.read (Elt F) (bits m c) := by
  show (cfg0.win 1).cut (grid0.coords t) ((dats m 0 c).after 1 t) = _
  rw [after0_1]
  unfold out0_1
  rw [View.canon_unit_zero offsets_zero, View.ld_unit_zero offsets_zero]
  funext i
  exact payload_apply _ i

/-- The block row of point `t` is `t` itself. -/
theorem block_row (t : Fin cfg0.N) : win0_1.index t 0 = t.val := by
  rcases fin_N0 t with rfl | rfl | rfl | rfl | rfl | rfl | rfl | rfl | rfl | rfl | rfl | rfl | rfl | rfl | rfl | rfl <;> rfl

/-- The sixteen blocks cover the result's array: row `r` is in block `r / 2048`. -/
theorem cover (i : S32768x1024.Idx) :
    ∃ t : Fin cfg0.N, (cfg0.win 1).flush t = true ∧ i ∈ ((cfg0.win 1).blk t).view.set := by
  have h0 : (i 0 : Nat) < 32768 := (i 0).isLt
  have h1 : (i 1 : Nat) < 1024 := (i 1).isLt
  have hN : cfg0.N = 16 := N_0
  obtain ⟨t, ht⟩ : ∃ t : Fin cfg0.N, t.val = (i 0 : Nat) / 2048 := ⟨⟨(i 0 : Nat) / 2048, by omega⟩, rfl⟩
  refine ⟨t, flush0_1 t, ?_⟩
  show i ∈ ((View.whole main_v1).slice (win0_1.rect t)).set
  rw [View.set_slice_whole, Rect.mem_set_unit]
  intro a
  match a with
  | ⟨0, _⟩ =>
    show win0_1.index t 0 * 2048 ≤ (i 0 : Nat) ∧ (i 0 : Nat) < win0_1.index t 0 * 2048 + 2048
    rw [block_row]
    omega
  | ⟨1, _⟩ =>
    show 0 * 1024 ≤ (i 1 : Nat) ∧ (i 1 : Nat) < 0 * 1024 + 1024
    omega

/-- So the kernel's array ends holding `bits`. -/
theorem final (c : Dev nD) : (dats m 0 c).arrAt 1 cfg0.N = bits m c :=
  (dats m 0 c).arrAt_eq_of_cover 1 (bits m c) (fun t _ => flushed_eq m c t) cover

/-- The argument in rows is the argument, reshaped. -/
theorem entry (c : Dev nD) : V m c main_v0 = shapeCast S32768x1024 (m ((c : Thread nD τ).loc main_arg0)) Facts₀.shapeCasts_S33554432_S32768x1024 := by
  show StableHlo.after hostOps0 _ _ = _
  after_results <;> rfl

/-- The host's lines after the kernel leave, at every index of the flat result, the membership bit of the argument there. -/
theorem tail (c : Dev nD) :
    Pipeline.afterTail₀ cfgs (dats m) 0 (V0 m) [hostOps1] c main_v5
      = fun i : S33554432.Idx => member (F := F) (m ((c : Thread nD τ).loc main_arg0) i) := by
  have hv : (Pipeline.withArrays spec0 c (V0 m c) fun w => (dats m 0 c).arrAt w cfg0.N) (Proc.devRef .tc main_v1) = bits m c :=
    (Pipeline.withArrays_arr spec0 winFacts0.arr_inj c _ _ 1).trans (final m c)
  unfold Pipeline.afterTail₀
  show StableHlo.after hostOps1 _ _ = _
  after_results
  funext i
  show IntOp.cmpi .ne ((Pipeline.withArrays spec0 c (V0 m c) fun w => (dats m 0 c).arrAt w cfg0.N) (Proc.devRef .tc main_v1)
    (Shape.reshapeEquiv shapeCasts_S32768x1024_S33554432 i)) 0#32 = _
  rw [congrFun hv]
  show IntOp.cmpi .ne ((member (V m c main_v0 (Shape.reshapeEquiv _ i))).setWidth 32) 0#32 = _
  rw [narrow_widen, entry]
  exact congrArg member (congrFun (shapeCast_shapeCast (s := S33554432) (t := S32768x1024)
    (m ((c : Thread nD τ).loc main_arg0)) shapeCasts_S33554432_S32768x1024 shapeCasts_S32768x1024_S33554432) i)

/-- The program's run: it ends with the membership bits of the argument in the result, and the argument unchanged. -/
theorem run : θ_run defs (onTc (τ := τ) (main (F := F))) ⟨m, fun _ => 0, ρ⟩ fun r => ∀ c : Dev nD,
      r.2.mem ((c.tc : Thread nD τ).loc main_v5) = (fun i : S33554432.Idx => member (F := F) (m ((c.tc : Thread nD τ).loc main_arg0) i))
      ∧ r.2.mem ((c.tc : Thread nD τ).loc main_arg0) = m ((c.tc : Thread nD τ).loc main_arg0) :=
  (θ_run defs _ _).mono (fun _ h c =>
    ⟨((h c).2 main_v5 (Pipeline.mem_restRefs_of main_v5 (by decide) (by decide))).trans (tail m c),
      ((h c).2 main_arg0 (Pipeline.mem_restRefs_of main_arg0 (by decide) (by decide))).trans (W_main_arg0 m (dats m) c)⟩)
    (run_main m ρ)

end Cert.KernelValue

end
-- ==== Proof.Twin.lean ====
/-
  The printed kernel and its idealization are the same program text, as are the reference and its idealization: the
  idealization rewrites nothing. So the run of the idealized kernel, proved at any reading of the float operations, is the
  run of the printed one too, read at float words.
-/
module

public import proofs.«01_k».proof.Proof.KernelValue
public import proofs.«01_k».proof.Proof.Gen.Kernel
public import proofs.«01_k».proof.Proof.Gen.Reference.Run

@[expose] public section

noncomputable section

namespace Cert.Twin

open Cert.Membership Idealize.ShloMosaic Idealize.ShloMosaic.TcCoe Idealize.SL.Sem

variable {F : FTy → Type} [FloatOps F]

/-- The two kernels' bodies are the same, at each of the (one) kernel's labels. -/
theorem defs₀_eq : Kernel.defs₀ (F := F) = KernelIdeal.defs₀ (F := F) :=
  congrArg Defs.onTc (funext fun l => funext fun x => match l, x with
    | 0, (_, _) => rfl)

/-- So the two programs' definitions are the same, the pipelines around the bodies being equal. -/
theorem defs_eq : Kernel.defs (F := F) = KernelIdeal.defs (F := F) :=
  congrArg (Pipeline.defs (KernelIdeal.pcfgs (F := F))) defs₀_eq

/-- The printed kernel's run: the membership bits of the argument in the result, and the argument unchanged. -/
theorem kernel_run (m : (ℓ : Loc Kernel.nD Kernel.τ Kernel.sig) → Buf (Elt F) ℓ) (ρ : Dev Kernel.nD → PrngReg) :
    θ_run Kernel.defs (onTc (τ := Kernel.τ) (Kernel.main (F := F))) ⟨m, fun _ => 0, ρ⟩ fun r => ∀ c : Dev Kernel.nD,
      r.2.mem ((c.tc : Thread Kernel.nD Kernel.τ).loc Kernel.main_v5)
          = (fun i : Kernel.S33554432.Idx => member (F := F) (m ((c.tc : Thread Kernel.nD Kernel.τ).loc Kernel.main_arg0) i))
      ∧ r.2.mem ((c.tc : Thread Kernel.nD Kernel.τ).loc Kernel.main_arg0)
          = m ((c.tc : Thread Kernel.nD Kernel.τ).loc Kernel.main_arg0) :=
  (congrArg (fun d => θ_run d (onTc (τ := Kernel.τ) (Kernel.main (F := F))) ⟨m, fun _ => 0, ρ⟩ _) defs_eq).mpr
    (KernelValue.run m ρ)

/-- The idealized reference's run: the membership bits of the argument in the result, and the argument unchanged. -/
theorem referenceIdeal_run (m : (ℓ : Loc ReferenceIdeal.nD ReferenceIdeal.τ ReferenceIdeal.sig) → Buf (Elt F) ℓ)
    (ρ : Dev ReferenceIdeal.nD → PrngReg) :
    θ_run ReferenceIdeal.defs (onTc (τ := ReferenceIdeal.τ) (ReferenceIdeal.main (F := F))) ⟨m, fun _ => 0, ρ⟩ fun r =>
      ∀ c : Dev ReferenceIdeal.nD,
      r.2.mem ((c.tc : Thread ReferenceIdeal.nD ReferenceIdeal.τ).loc ReferenceIdeal.main_v0)
          = (fun i : ReferenceIdeal.S33554432.Idx =>
              member (F := F) (m ((c.tc : Thread ReferenceIdeal.nD ReferenceIdeal.τ).loc ReferenceIdeal.main_arg0) i))
      ∧ r.2.mem ((c.tc : Thread ReferenceIdeal.nD ReferenceIdeal.τ).loc ReferenceIdeal.main_arg0)
          = m ((c.tc : Thread ReferenceIdeal.nD ReferenceIdeal.τ).loc ReferenceIdeal.main_arg0) :=
  (θ_run ReferenceIdeal.defs _ _).mono (fun _ h c => ⟨(h c).1.trans (funext fun i => reference_apply _ i), (h c).2⟩)
    (ReferenceIdeal.Value.run m ρ)

/-- The printed reference's run: the membership bits of the argument in the result, and the argument unchanged. -/
theorem reference_run (m : (ℓ : Loc Reference.nD Reference.τ Reference.sig) → Buf (Elt F) ℓ) (ρ : Dev Reference.nD → PrngReg) :
    θ_run Reference.defs (onTc (τ := Reference.τ) (Reference.main (F := F))) ⟨m, fun _ => 0, ρ⟩ fun r => ∀ c : Dev Reference.nD,
      r.2.mem ((c.tc : Thread Reference.nD Reference.τ).loc Reference.main_v0)
          = (fun i : Reference.S33554432.Idx => member (F := F) (m ((c.tc : Thread Reference.nD Reference.τ).loc Reference.main_arg0) i))
      ∧ r.2.mem ((c.tc : Thread Reference.nD Reference.τ).loc Reference.main_arg0)
          = m ((c.tc : Thread Reference.nD Reference.τ).loc Reference.main_arg0) :=
  (θ_run Reference.defs _ _).mono (fun _ h c => ⟨(h c).1.trans (funext fun i => reference_apply (F := F) _ i), (h c).2⟩)
    (Reference.Value.run m ρ)

end Cert.Twin

end
-- ==== Proof.lean ====
/-
  The proof of `Cert.Claim`. The frames of the two kernels are the generated ones; the frames of the two references are
  read off their runs. The value claims say that kernel and reference leave the same array: both leave, at every index,
  the membership bit of the argument's element there (`Cert.Membership.member`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference.Run
public import proofs.«01_k».proof.Proof.KernelValue
public import proofs.«01_k».proof.Proof.Twin
public import Idealize.ShloMosaic.Lib.Quiescent
public import Idealize.ShloMosaic.Adequacy
public import Idealize.ShloMosaic.Init

@[expose] public section

noncomputable section

namespace Cert.Proof

open Cert.Membership Idealize.ShloMosaic Idealize.SL.Sem

/-- The idealized reference ends with its argument unchanged and every semaphore at zero: it names no semaphore. -/
theorem frame_ReferenceIdeal : Cert.quiescent_ReferenceIdeal := fun m ρ _ =>
  (θ_run Cert.ReferenceIdeal.defs _ _).mono
    (fun r h => ⟨fun c => (h c).2, sem_eq_zero_of_no_sems (by decide) r.2⟩) (Twin.referenceIdeal_run m ρ)

/-- The printed reference likewise. -/
theorem frame_Reference : Cert.quiescent_Reference := fun m ρ _ =>
  (θ_run Cert.Reference.defs _ _).mono
    (fun r h => ⟨fun c => (h c).2, sem_eq_zero_of_no_sems (by decide) r.2⟩) (Twin.reference_run m ρ)

/-- At exact arithmetic the kernel and the reference leave the same bits: those of the kernel's argument. -/
theorem algebraic : Cert.algebraic_KernelIdeal_ReferenceIdeal := fun m g m' g' _ hargs =>
  ⟨fun c (i : Cert.KernelIdeal.S33554432.Idx) =>
      member (F := Ideal) (m ((c.tc : Thread Cert.KernelIdeal.nD Cert.KernelIdeal.τ).loc Cert.KernelIdeal.main_arg0) i),
    KernelValue.run m g,
    (θ_run Cert.ReferenceIdeal.defs _ _).mono
      (fun _ h c => ⟨(h c).1.trans (funext fun i => congrArg member (congrFun (hargs c) i)), (h c).2⟩)
      (Twin.referenceIdeal_run m' g')⟩

/-- At float words too. -/
theorem bitexact : Cert.bitexact_Kernel_Reference := fun m g m' g' _ hargs =>
  ⟨fun c (i : Cert.Kernel.S33554432.Idx) =>
      member (F := Bits) (m ((c.tc : Thread Cert.Kernel.nD Cert.Kernel.τ).loc Cert.Kernel.main_arg0) i),
    Twin.kernel_run m g,
    (θ_run Cert.Reference.defs _ _).mono
      (fun _ h c => ⟨(h c).1.trans (funext fun i => congrArg member (congrFun (hargs c) i)), (h c).2⟩)
      (Twin.reference_run m' g')⟩

theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ, frame_ReferenceIdeal,
    frame_Reference, trivial, algebraic, bitexact⟩

end Cert.Proof

end
